-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_c)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_c) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_c_16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4096x16 : Shape := ⟨2, ![4096, 16]⟩
abbrev S_ : Shape := ⟨0, ![]⟩

class Facts : Prop where
  bcast_S_S4096x16 : S_.BroadcastsInDim S4096x16 (![] : Fin 0 → Fin S4096x16.rank)
  reducesTo_S4096x16_S_d0_1 : S4096x16.ReducesTo [0, 1] S_
  h_S_ : 0 < S_.numel

variable [Facts]

def fn {F : FTy → Type} [FloatOps F] (main_arg0 : FVec F S4096x16 .f32) (main_arg1 : FVec F S4096x16 .f32) (main_arg2 : FVec F S4096x16 .f32) : IVec S_ 1 :=
  let main_v0 : FVec F S4096x16 .f32 := Host.absf main_arg0
  let main_cst : FVec F S_ .f32 := constant S_ .f32 0x7F800000#32
  let main_v1 : FVec F S4096x16 .f32 := broadcastInDim S4096x16 ![] bcast_S_S4096x16 main_cst
  let main_v2 : IVec S4096x16 1 := cmpf .olt main_v0 main_v1
  let main_c : IVec S_ 1 := constantI S_ 1 1#1
  let main_v3 : IVec S_ 1 := (fun x v => Host.reduce IntOp.andi x v reducesTo_S4096x16_S_d0_1 h_S_) main_v2 main_c
  let main_v4 : FVec F S4096x16 .f32 := Host.absf main_arg1
  let main_cst_0 : FVec F S_ .f32 := constant S_ .f32 0x7F800000#32
  let main_v5 : FVec F S4096x16 .f32 := broadcastInDim S4096x16 ![] bcast_S_S4096x16 main_cst_0
  let main_v6 : IVec S4096x16 1 := cmpf .olt main_v4 main_v5
  let main_c_1 : IVec S_ 1 := constantI S_ 1 1#1
  let main_v7 : IVec S_ 1 := (fun x v => Host.reduce IntOp.andi x v reducesTo_S4096x16_S_d0_1 h_S_) main_v6 main_c_1
  let main_v8 : IVec S_ 1 := andi main_v3 main_v7
  let main_v9 : FVec F S4096x16 .f32 := Host.absf main_arg2
  let main_cst_2 : FVec F S_ .f32 := constant S_ .f32 0x7F800000#32
  let main_v10 : FVec F S4096x16 .f32 := broadcastInDim S4096x16 ![] bcast_S_S4096x16 main_cst_2
  let main_v11 : IVec S4096x16 1 := cmpf .olt main_v9 main_v10
  let main_c_3 : IVec S_ 1 := constantI S_ 1 1#1
  let main_v12 : IVec S_ 1 := (fun x v => Host.reduce IntOp.andi x v reducesTo_S4096x16_S_d0_1 h_S_) main_v11 main_c_3
  let main_v13 : IVec S_ 1 := andi main_v8 main_v12
  main_v13
-- ==== Kernel.lean ====
abbrev S4096x16 : Shape := ⟨2, ![4096, 16]⟩
abbrev S1x1 : Shape := ⟨2, ![1, 1]⟩
abbrev S4096 : Shape := ⟨1, ![4096]⟩
abbrev S4096x1 : Shape := ⟨2, ![4096, 1]⟩
abbrev S4096x17 : Shape := ⟨2, ![4096, 17]⟩
abbrev S256 : Shape := ⟨1, ![256]⟩
abbrev S256x17 : Shape := ⟨2, ![256, 17]⟩
abbrev S4096x256 : Shape := ⟨2, ![4096, 256]⟩
abbrev S8x512x256 : Shape := ⟨3, ![8, 512, 256]⟩
abbrev S512x256 : Shape := ⟨2, ![512, 256]⟩
abbrev S1x256 : Shape := ⟨2, ![1, 256]⟩
abbrev S1 : Shape := ⟨1, ![1]⟩
abbrev S_ : Shape := ⟨0, ![]⟩

abbrev nBuf : Space → Nat
  | .hbm => 6
  | .vmem => 4
  | .smem => 0
  | _ => 0

abbrev bufTy : (tb : Table) → Fin (tcTables nBuf tb) → BufTy
  | .hbm, ⟨0, _⟩ => ⟨S4096x16, .f32⟩
  | .hbm, ⟨1, _⟩ => ⟨S4096x16, .f32⟩
  | .hbm, ⟨2, _⟩ => ⟨S4096x16, .f32⟩
  | .hbm, ⟨3, _⟩ => ⟨S1x1, .f32⟩
  | .hbm, ⟨4, _⟩ => ⟨S_, .f32⟩
  | .hbm, ⟨5, _⟩ => ⟨S_, .i32⟩
  | .local _ .vmem, ⟨0, _⟩ => ⟨S4096x16, .f32⟩
  | .local _ .vmem, ⟨1, _⟩ => ⟨S4096x16, .f32⟩
  | .local _ .vmem, ⟨2, _⟩ => ⟨S4096x16, .f32⟩
  | .local _ .vmem, ⟨3, _⟩ => ⟨S1x1, .f32⟩
  | _, _ => ⟨S4096x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S4096x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x16 : Shape := ⟨2, ![4096, 16]⟩
abbrev S12288x16 : Shape := ⟨2, ![12288, 16]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S16x4096 : Shape := ⟨2, ![16, 4096]⟩
abbrev S4096x3 : Shape := ⟨2, ![4096, 3]⟩

abbrev nBuf : Space → Nat
  | .hbm => 103
  | .vmem => 0
  | .smem => 0
  | _ => 0

abbrev bufTy : (tb : Table) → Fin (tcTables nBuf tb) → BufTy
  | .hbm, ⟨0, _⟩ => ⟨S4096x16, .f32⟩
  | .hbm, ⟨1, _⟩ => ⟨S4096x16, .f32⟩
  | .hbm, ⟨2, _⟩ => ⟨S4096x16, .f32⟩
  | .hbm, ⟨3, _⟩ => ⟨S12288x16, .f32⟩
  | .hbm, ⟨4, _⟩ => ⟨S4096x16, .f32⟩
  | .hbm, ⟨5, _⟩ => ⟨S4096x16, .f32⟩
  | .hbm, ⟨6, _⟩ => ⟨S4096x16, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S4096x16, .f32⟩
  | .hbm, ⟨11, _⟩ => ⟨S_, .f32⟩
  | .hbm, ⟨12, _⟩ => ⟨S4096, .f32⟩
  | .hbm, ⟨13, _⟩ => ⟨S1x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S16x4096, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x4096, .i32⟩
  | .hbm, ⟨24, _⟩ => ⟨S_, .f32⟩
  | .hbm, ⟨25, _⟩ => ⟨S_, .i32⟩
  | .hbm, ⟨26, _⟩ => ⟨S4096, .f32⟩
  | .hbm, ⟨27, _⟩ => ⟨S4096, .i32⟩
  | .hbm, ⟨28, _⟩ => ⟨S_, .i32⟩
  | .hbm, ⟨29, _⟩ => ⟨S4096, .i32⟩
  | .hbm, ⟨30, _⟩ => ⟨S4096, .i32⟩
  | .hbm, ⟨31, _⟩ => ⟨S4096, .i32⟩
  | .hbm, ⟨32, _⟩ => ⟨S_, .i32⟩
  | .hbm, ⟨33, _⟩ => ⟨S4096, .i32⟩
  | .hbm, ⟨34, _⟩ => ⟨S4096, .i32⟩
  | .hbm, ⟨35, _⟩ => ⟨S4096x1, .i32⟩
  | .hbm, ⟨36, _⟩ => ⟨S4096x1, .i32⟩
  | .hbm, ⟨37, _⟩ => ⟨S4096x1, .i32⟩
  | .hbm, ⟨38, _⟩ => ⟨S4096x3, .i32⟩
  | .hbm, ⟨39, _⟩ => ⟨S4096x1, .i32⟩
  | .hbm, ⟨40, _⟩ => ⟨S4096, .i32⟩
  | .hbm, ⟨41, _⟩ => ⟨S_, .i32⟩
  | .hbm, ⟨42, _⟩ => ⟨S4096, .i32⟩
  | .hbm, ⟨43, _⟩ => ⟨S4096, .i1⟩
  | .hbm, ⟨44, _⟩ => ⟨S_, .i32⟩
  | .hbm, ⟨45, _⟩ => ⟨S4096, .i32⟩
  | .hbm, ⟨46, _⟩ => ⟨S4096, .i32⟩
  | .hbm, ⟨47, _⟩ => ⟨S4096, .i32⟩
  | .hbm, ⟨48, _⟩ => ⟨S4096x1, .i32⟩
  | .hbm, ⟨49, _⟩ => ⟨S4096x16, .f32⟩
  | .hbm, ⟨50, _⟩ => ⟨S4096x1, .i32⟩
  | .hbm, ⟨51, _⟩ => ⟨S4096, .i32⟩
  | .hbm, ⟨52, _⟩ => ⟨S_, .i32⟩
  | .hbm, ⟨53, _⟩ => ⟨S4096, .i32⟩
  | .hbm, ⟨54, _⟩ => ⟨S4096, .i1⟩
  | .hbm, ⟨55, _⟩ => ⟨S_, .i32⟩
  | .hbm, ⟨56, _⟩ => ⟨S4096, .i32⟩
  | .hbm, ⟨57, _⟩ => ⟨S4096, .i32⟩
  | .hbm, ⟨58, _⟩ => ⟨S4096, .i32⟩
  | .hbm, ⟨59, _⟩ => ⟨S4096x1, .i32⟩
  | .hbm, ⟨60, _⟩ => ⟨S4096x16, .f32⟩
  | .hbm, ⟨61, _⟩ => ⟨S4096x16, .f32⟩
  | .hbm, ⟨62, _⟩ => ⟨S4096x16, .f32⟩
  | .hbm, ⟨63, _⟩ => ⟨S_, .f32⟩
  | .hbm, ⟨64, _⟩ => ⟨S4096, .f32⟩
  | .hbm, ⟨65, _⟩ => ⟨S4096x1, .i32⟩
  | .hbm, ⟨66, _⟩ => ⟨S4096, .i32⟩
  | .hbm, ⟨67, _⟩ => ⟨S_, .i32⟩
  | .hbm, ⟨68, _⟩ => ⟨S4096, .i32⟩
  | .hbm, ⟨69, _⟩ => ⟨S4096, .i1⟩
  | .hbm, ⟨70, _⟩ => ⟨S_, .i32⟩
  | .hbm, ⟨71, _⟩ => ⟨S4096, .i32⟩
  | .hbm, ⟨72, _⟩ => ⟨S4096, .i32⟩
  | .hbm, ⟨73, _⟩ => ⟨S4096, .i32⟩
  | .hbm, ⟨74, _⟩ => ⟨S4096x1, .i32⟩
  | .hbm, ⟨75, _⟩ => ⟨S4096x16, .f32⟩
  | .hbm, ⟨76, _⟩ => ⟨S4096x1, .i32⟩
  | .hbm, ⟨77, _⟩ => ⟨S4096, .i32⟩
  | .hbm, ⟨78, _⟩ => ⟨S_, .i32⟩
  | .hbm, ⟨79, _⟩ => ⟨S4096, .i32⟩
  | .hbm, ⟨80, _⟩ => ⟨S4096, .i1⟩
  | .hbm, ⟨81, _⟩ => ⟨S_, .i32⟩
  | .hbm, ⟨82, _⟩ => ⟨S4096, .i32⟩
  | .hbm, ⟨83, _⟩ => ⟨S4096, .i32⟩
  | .hbm, ⟨84, _⟩ => ⟨S4096, .i32⟩
  | .hbm, ⟨85, _⟩ => ⟨S4096x1, .i32⟩
  | .hbm, ⟨86, _⟩ => ⟨S4096x16, .f32⟩
  | .hbm, ⟨87, _⟩ => ⟨S4096x16, .f32⟩
  | .hbm, ⟨88, _⟩ => ⟨S4096x16, .f32⟩
  | .hbm, ⟨89, _⟩ => ⟨S_, .f32⟩
  | .hbm, ⟨90, _⟩ => ⟨S4096, .f32⟩
  | .hbm, ⟨91, _⟩ => ⟨S4096, .f32⟩
  | .hbm, ⟨92, _⟩ => ⟨S_, .f32⟩
  | .hbm, ⟨93, _⟩ => ⟨S4096, .f32⟩
  | .hbm, ⟨94, _⟩ => ⟨S4096, .f32⟩
  | .hbm, ⟨95, _⟩ => ⟨S_, .f32⟩
  | .hbm, ⟨96, _⟩ => ⟨S4096, .f32⟩
  | .hbm, ⟨97, _⟩ => ⟨S4096, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .i32⟩
  | _, _ => ⟨S4096x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_cst : Ref sig .tc := ⟨.hbm, 24, rfl⟩
abbrev main_call0_c : Ref sig .tc := ⟨.hbm, 25, rfl⟩
abbrev main_call0_v1_0 : Ref sig .tc := ⟨.hbm, 26, rfl⟩
abbrev main_v17 : Ref sig .tc := ⟨.hbm, 27, rfl⟩
abbrev main_c : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_3 : Ref sig .tc := ⟨.hbm, 41, rfl⟩
abbrev main_v29 : Ref sig .tc := ⟨.hbm, 42, rfl⟩
abbrev main_v30 : Ref sig .tc := ⟨.hbm, 43, rfl⟩
abbrev main_c_4 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_c_5 : Ref sig .tc := ⟨.hbm, 52, rfl⟩
abbrev main_v38 : Ref sig .tc := ⟨.hbm, 53, rfl⟩
abbrev main_v39 : Ref sig .tc := ⟨.hbm, 54, rfl⟩
abbrev main_c_6 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_7 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_c_8 : Ref sig .tc := ⟨.hbm, 67, rfl⟩
abbrev main_v50 : Ref sig .tc := ⟨.hbm, 68, rfl⟩
abbrev main_v51 : Ref sig .tc := ⟨.hbm, 69, rfl⟩
abbrev main_c_9 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_c_10 : Ref sig .tc := ⟨.hbm, 78, rfl⟩
abbrev main_v59 : Ref sig .tc := ⟨.hbm, 79, rfl⟩
abbrev main_v60 : Ref sig .tc := ⟨.hbm, 80, rfl⟩
abbrev main_c_11 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_12 : Ref sig .tc := ⟨.hbm, 89, rfl⟩
abbrev main_v68 : Ref sig .tc := ⟨.hbm, 90, rfl⟩
abbrev main_v69 : Ref sig .tc := ⟨.hbm, 91, rfl⟩
abbrev main_cst_13 : Ref sig .tc := ⟨.hbm, 92, rfl⟩
abbrev main_v70 : Ref sig .tc := ⟨.hbm, 93, rfl⟩
abbrev main_v71 : Ref sig .tc := ⟨.hbm, 94, rfl⟩
abbrev main_call1_cst : Ref sig .tc := ⟨.hbm, 95, rfl⟩
abbrev main_call1_v0 : Ref sig .tc := ⟨.hbm, 96, rfl⟩
abbrev main_v72 : Ref sig .tc := ⟨.hbm, 97, rfl⟩
abbrev main_cst_14 : Ref sig .tc := ⟨.hbm, 98, rfl⟩
abbrev main_v73 : Ref sig .tc := ⟨.hbm, 99, rfl⟩
abbrev main_cst_15 : Ref sig .tc := ⟨.hbm, 100, rfl⟩
abbrev main_v74 : Ref sig .tc := ⟨.hbm, 101, rfl⟩
abbrev main_c_16 : Ref sig .tc := ⟨.hbm, 102, rfl⟩

abbrev nD : Nat := 1
abbrev τ : Topo := Topo.v7x

variable {F : FTy → Type} [FloatOps F]
-- ==== Proof.KernelTerm.lean ====
/- The kernel's block as functions of arrays: sixteen chunks of 256 anchors that differ only in where they start. -/
module

public import proofs.«01_k».proof.Defs
public import proofs.«01_k».proof.Proof.Gen.KernelIdeal
public import proofs.«01_k».proof.Proof.Gen.KernelIdeal.Frame

@[expose] public section

noncomputable section

namespace Cert.Proof.Ker

open Idealize.ShloMosaic Cert.KernelIdeal Cert.KernelIdeal.Gen

/-- Chunk `n`'s 256 rows lie inside the 4096 rows of 17 columns. -/
theorem slices_rows (n : ℕ) (h : n < 16) : S4096x17.Slices ![256 * n, 0] S256x17 := by
  interval_cases n <;> decide

/-- Chunk `n`'s 256 entries lie inside the 4096. -/
theorem slices_entries (n : ℕ) (h : n < 16) : S4096.Slices ![256 * n] S256 := by
  interval_cases n <;> decide

/-- For each anchor of chunk `n`, the least inner product of its row of `A` with a row of `N`. -/
def least (A N : FVec Ideal S4096x17 .f32) (n : ℕ) (h : n < 16) : FVec Ideal S256 .f32 :=
  multiReduction .minimumf [0] S256
    (multiReduction .minimumf [0] S512x256
      (shapeCast S8x512x256
        (matmul dot_S4096x17_S256x17_S4096x256_1_1_0_0_n_n none N (extractStridedSlice S256x17 ![256 * n, 0] A (slices_rows n h))
          (constant S4096x256 .f32 0x00000000#32))
        shapeCasts_S4096x256_S8x512x256)
      0x7F800000#32 reduces_S8x512x256_S512x256 (.inl rfl) rfl)
    0x7F800000#32 reduces_S512x256_S256 (.inl rfl) rfl

/-- Chunk `n`'s losses: `max(t - least + 1, 0)`. -/
def hinge (t : FVec Ideal S4096 .f32) (A N : FVec Ideal S4096x17 .f32) (n : ℕ) (h : n < 16) : FVec Ideal S256 .f32 :=
  maximumf
    (addf (subf (extractStridedSlice S256 ![256 * n] t (slices_entries n h)) (least A N n h))
      (broadcast S256 (Scalar.ofBits .f32 0x3F800000#32)))
    (broadcast S256 (Scalar.ofBits .f32 0x00000000#32))

/-- The first `n` chunks' losses added up lane by lane. -/
def total (t : FVec Ideal S4096 .f32) (A N : FVec Ideal S4096x17 .f32) : (n : ℕ) → n ≤ 16 → FVec Ideal S256 .f32
  | 0, _ => broadcast S256 (Scalar.ofBits .f32 0x00000000#32)
  | n + 1, h => addf (total t A N n (Nat.le_of_succ_le h)) (hinge t A N n h)

/-- The sum of 256 lanes times `1/4096`. -/
def finish (s : FVec Ideal S256 .f32) : FVec Ideal S1x1 .f32 :=
  broadcast S1x1
    (Scalar.mulf
      (extractAt ![0, 0]
        (shapeCast S1x1
          (multiReduction .add [1] S1 (shapeCast S1x256 s shapeCasts_S256_S1x256) 0x00000000#32 reduces_S1x256_S1 (.inl rfl) rfl)
          shapeCasts_S1_S1x1)
        inpos_S1x1_p0_0)
      (Scalar.ofBits .f32 0x39800000#32))

/-- The block as a function of the three argument arrays. -/
def out (x0 x1 x2 : FVec Ideal S4096x16 .f32) : FVec Ideal S1x1 .f32 :=
  finish (total (k0_pay2 x0 x1) (k0_pay3 x0) (k0_pay4 x2) 16 le_rfl)

set_option maxRecDepth 16384 in
/-- What one run of the body leaves in its result block is `out` of its three argument blocks. -/
theorem block_eq (x0 x1 x2 : Vec Ideal S4096x16 .f32) :
    out0_3 x0 x1 x2 = View.canon [⟨r0_1, out (View.ld x0 r0_0) (View.ld x1 r0_0) (View.ld x2 r0_0)⟩] := by
  rfl

end Cert.Proof.Ker

end
-- ==== Proof.KernelRun.lean ====
/- What the kernel's program leaves in memory. -/
module

public import proofs.«01_k».proof.Proof.KernelTerm
public import Idealize.ShloMosaic.Lib.Claim
public import Idealize.ShloMosaic.Lib.Pipeline.ValueKit
public import Idealize.ShloMosaic.Lib.StableHlo.RunHlo
public import Idealize.ShloMosaic.Lib.StableHlo.RunRead

@[expose] public section

noncomputable section

namespace Cert.Proof.Ker

open Idealize.ShloMosaic Idealize.ShloMosaic.StableHlo Idealize.ShloMosaic.TcCoe Idealize.SL.Sem Cert.KernelIdeal Cert.KernelIdeal.Gen

variable (m : (ℓ : Loc nD τ sig) → Buf (Elt Ideal) ℓ) (g : Dev nD → PrngReg)

/-- The one grid point. -/
def point : Fin cfg0.N := ⟨0, by decide⟩

/-- The body's loads read its blocks whole, and its one store covers the result block. -/
theorem block_whole (x0 x1 x2 : Vec Ideal S4096x16 .f32) : out0_3 x0 x1 x2 = out x0 x1 x2 := by
  rw [block_eq, View.canon_cons_unit_lit, View.ld_unit_lit, View.ld_unit_lit, View.ld_unit_lit] <;> intro a <;> fin_cases a <;> rfl

/-- The first window's block is the first argument. -/
theorem iblk_0 (c : Dev nD) : iblk m c 0 point = m ((c : Thread nD τ).loc main_arg0) := by
  blk_ext! [iblk, V, (by decide : win0_0.index point 0 = 0), (by decide : win0_0.index point 1 = 0)]

/-- The second window's block is the second argument. -/
theorem iblk_1 (c : Dev nD) : iblk m c 1 point = m ((c : Thread nD τ).loc main_arg1) := by
  blk_ext! [iblk, V, (by decide : win0_1.index point 0 = 0), (by decide : win0_1.index point 1 = 0)]

/-- The third window's block is the third argument. -/
theorem iblk_2 (c : Dev nD) : iblk m c 2 point = m ((c : Thread nD τ).loc main_arg2) := by
  blk_ext! [iblk, V, (by decide : win0_2.index point 0 = 0), (by decide : win0_2.index point 1 = 0)]

/-- After the region the result array is `out` of the three arguments. -/
theorem array_eq (c : Dev nD) :
    (dats m 0 c).arrAt 3 cfg0.N = out (m ((c : Thread nD τ).loc main_arg0)) (m ((c : Thread nD τ).loc main_arg1))
      (m ((c : Thread nD τ).loc main_arg2)) := by
  refine (dats m 0 c).arrAt_eq_of_after_last 3 point (by decide +kernel) _ fun j => ?_
  blk_simp
  rw [after0_3, block_whole, iblk_0, iblk_1, iblk_2]

/-- The kernel's two results: `out` of the arguments as a scalar, and 4096. -/
theorem results :
    θ_run (defs (F := Ideal)) (onTc (τ := τ) (main (F := Ideal))) ⟨m, fun _ => 0, g⟩ (fun r => ∀ c : Dev nD,
      r.2.mem ((c.tc : Thread nD τ).loc main_v1)
        = shapeCast S_ (out (m ((c.tc : Thread nD τ).loc main_arg0)) (m ((c.tc : Thread nD τ).loc main_arg1))
            (m ((c.tc : Thread nD τ).loc main_arg2))) shapeCasts_S1x1_S_
      ∧ r.2.mem ((c.tc : Thread nD τ).loc main_c) = constantI S_ 32 4096#32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  run_from (run_main m g)
  · refine Eq.trans ?_ (congrArg (fun x : FVec Ideal S1x1 .f32 => shapeCast S_ x shapeCasts_S1x1_S_) (array_eq m c))
    unfold Pipeline.afterTail₀
    after_reads_simp
    exact congrArg (fun x : FVec Ideal S1x1 .f32 => shapeCast S_ x shapeCasts_S1x1_S_)
      (Pipeline.withArrays_arr (cfgs 0).spec (by decide) c (V0 m c) (fun w => (dats m 0 c).arrAt w (cfgs 0).N) 3)
  · unfold Pipeline.afterTail₀
    after_reads_simp

end Cert.Proof.Ker

end
-- ==== Proof.RefTerm.lean ====
/- The reference's mathematics as functions of arrays, one for each stage of its host program. -/
module

public import proofs.«01_k».proof.Defs
public import proofs.«01_k».proof.Proof.Gen.ReferenceIdeal

@[expose] public section

noncomputable section

namespace Cert.Proof.Ref

open Idealize.ShloMosaic Cert.ReferenceIdeal Cert.ReferenceIdeal.Facts₀

/-- Anchors, positives and negatives stacked as one array of 12288 rows. -/
def pool (x1 x2 x3 : FVec Ideal S4096x16 .f32) : FVec Ideal S12288x16 .f32 :=
  concatenate S12288x16 0 [⟨S4096x16, x1⟩, ⟨S4096x16, x2⟩, ⟨S4096x16, x3⟩]
    concatenates_S4096x16_S4096x16_S4096x16_S12288x16_d0

/-- The sum of squares of each row. -/
def sqnorm (x : FVec Ideal S4096x16 .f32) : FVec Ideal S4096 .f32 :=
  Host.reduceAdd (mulf x x) (constant S_ .f32 0x00000000#32) reducesTo_S4096x16_S4096_d1 h_S_

/-- The squared distance of every anchor row to every negative row, expanded as `‖a‖² + ‖n‖² - 2 a·n`. -/
def dist (p : FVec Ideal S12288x16 .f32) : FVec Ideal S4096x4096 .f32 :=
  let a := extractStridedSlice S4096x16 ![0, 0] p slices_S12288x16_S4096x16_0_0
  let n := extractStridedSlice S4096x16 ![8192, 0] p slices_S12288x16_S4096x16_8192_0
  subf
    (addf
      (broadcastInDim S4096x4096 ![0, 1] bcast_S4096x1_S4096x4096_0_1
        (broadcastInDim S4096x1 ![0] bcast_S4096_S4096x1_0 (sqnorm a)))
      (broadcastInDim S4096x4096 ![0, 1] bcast_S1x4096_S4096x4096_0_1
        (broadcastInDim S1x4096 ![1] bcast_S4096_S1x4096_1 (sqnorm n))))
    (mulf (broadcastInDim S4096x4096 ![] bcast_S_S4096x4096 (constant S_ .f32 0x40000000#32))
      (Host.dotGeneral dot_S4096x16_S16x4096_S4096x4096_1_0_0_1_n_n none a
        (transpose S16x4096 [1, 0] n transposes_S4096x16_S16x4096_1_0)))

/-- The column at which each row of `d` is least. -/
def choice (d : FVec Ideal S4096x4096 .f32) : IVec S4096 32 := fun j =>
  (Host.argReduce (reducer_argmin_f32_i32 (F := Ideal)) d (iotaInDim S4096x4096 32 1) (constant S_ .f32 0x7F800000#32)
    (constantI S_ 32 0#32) reducesTo_S4096x4096_S4096_d1 h_S_ j).2

/-- The three row numbers of each triplet in the stacked array: anchor `i`, positive `4096 + i`, and the chosen negative. -/
def trip (c : IVec S4096 32) : IVec S4096x3 32 :=
  concatenate S4096x3 1
    [⟨S4096x1, broadcastInDim S4096x1 ![0] bcast_S4096_S4096x1_0 (iotaInDim S4096 32 0)⟩,
     ⟨S4096x1, broadcastInDim S4096x1 ![0] bcast_S4096_S4096x1_0
        (addi (iotaInDim S4096 32 0) (broadcastInDim S4096 ![] bcast_S_S4096 (constantI S_ 32 4096#32)))⟩,
     ⟨S4096x1, broadcastInDim S4096x1 ![0] bcast_S4096_S4096x1_0
        (addi (broadcastInDim S4096 ![] bcast_S_S4096 (constantI S_ 32 8192#32)) c)⟩]
    concatenates_S4096x1_S4096x1_S4096x1_S4096x3_d1

/-- One column of the triplets. -/
def col (t : IVec S4096x3 32) (k : ℕ) (h : S4096x3.Slices ![0, k] S4096x1) : IVec S4096 32 :=
  shapeCast S4096 (extractStridedSlice S4096x1 ![0, k] t h) shapeCasts_S4096x1_S4096

/-- Row numbers below zero counted from the end, as jnp indexing does. -/
def wrap (r : IVec S4096 32) : IVec S4096 32 :=
  select (cmpi .slt r (broadcastInDim S4096 ![] bcast_S_S4096 (constantI S_ 32 0#32)))
    (addi r (broadcastInDim S4096 ![] bcast_S_S4096 (constantI S_ 32 12288#32))) r

/-- The rows of the stacked array that one column of the triplets names. -/
def rows (p : FVec Ideal S12288x16 .f32) (r : IVec S4096 32) : FVec Ideal S4096x16 .f32 :=
  Host.gather gather_S12288x16_S4096x1_S4096x16_1_0_n_n_0_1_116 p
    (broadcastInDim S4096x1 ![0] bcast_S4096_S4096x1_0 (wrap r))

/-- The mean over the triplets of `max(‖a - p‖² - ‖a - n‖² + 1, 0)`. -/
def mean (p : FVec Ideal S12288x16 .f32) (t : IVec S4096x3 32) : FVec Ideal S_ .f32 :=
  Host.divf
    (Host.reduceAdd
      (maximumf
        (addf
          (subf
            (sqnorm (subf (rows p (col t 0 slices_S4096x3_S4096x1_0_0)) (rows p (col t 1 slices_S4096x3_S4096x1_0_1))))
            (sqnorm (subf (rows p (col t 0 slices_S4096x3_S4096x1_0_0)) (rows p (col t 2 slices_S4096x3_S4096x1_0_2)))))
          (broadcastInDim S4096 ![] bcast_S_S4096 (constant S_ .f32 0x3F800000#32)))
        (broadcastInDim S4096 ![] bcast_S_S4096 (constant S_ .f32 0x00000000#32)))
      (constant S_ .f32 0x00000000#32) reducesTo_S4096_S_d0 h_S_)
    (constant S_ .f32 0x45800000#32)

/-- The reference's first result as a function of its arguments. -/
def out (x1 x2 x3 : FVec Ideal S4096x16 .f32) : FVec Ideal S_ .f32 :=
  mean (pool x1 x2 x3) (trip (choice (dist (pool x1 x2 x3))))

end Cert.Proof.Ref

end
-- ==== Proof.RefRun.lean ====
/- What the reference program leaves in memory. -/
module

public import proofs.«01_k».proof.Proof.RefTerm
public import Idealize.ShloMosaic.Lib.Claim
public import Idealize.ShloMosaic.Lib.Quiescent
public import Idealize.ShloMosaic.Lib.StableHlo.RunHlo
public import Idealize.ShloMosaic.Lib.StableHlo.RunRead

@[expose] public section

noncomputable section

namespace Cert.Proof.Ref

open Idealize.ShloMosaic Idealize.ShloMosaic.StableHlo Idealize.SL.Sem Cert.ReferenceIdeal

set_option maxRecDepth 16384 in
set_option maxHeartbeats 4000000 in
/-- The reference's `main` is a straight line of host operations: the line, with the proof. -/
def line : {ops : List (HloOp τ sig (Elt Ideal)) // ∀ d, IsSeq (main (F := Ideal) d) ops} := by
  apply Subtype.mk
  hlo_seq

/-- The reference's operations in order. -/
def ops : List (HloOp τ sig (Elt Ideal)) := line.1

/-- Stacking three arrays depends on nothing but the arrays. -/
theorem stack_congr {α : Type} {s a b c : Shape} {d : Fin s.rank} {x x' : a.Idx → α} {y y' : b.Idx → α} {z z' : c.Idx → α}
    (h : Shape.Concatenates [a, b, c] s d) (hx : x = x') (hy : y = y') (hz : z = z') :
    concatenate s d [⟨a, x⟩, ⟨b, y⟩, ⟨c, z⟩] h = concatenate s d [⟨a, x'⟩, ⟨b, y'⟩, ⟨c, z'⟩] h := by
  subst hx hy hz; rfl

set_option maxRecDepth 16384 in
set_option maxHeartbeats 4000000 in
/-- After the first operation the stacked array is `pool` of the arguments. -/
theorem read_pool (V : Valuation τ sig (Elt Ideal)) :
    after (ops.take 1) V (Proc.devRef .tc main_v0)
      = pool (V (Proc.devRef .tc main_arg0)) (V (Proc.devRef .tc main_arg1)) (V (Proc.devRef .tc main_arg2)) := by
  after_reads_simp
  exact stack_congr _ rfl rfl rfl

set_option maxRecDepth 16384 in
set_option maxHeartbeats 4000000 in
/-- The next 35 operations choose the negatives and leave the triplets of row numbers. -/
theorem read_mid (V : Valuation τ sig (Elt Ideal)) :
    after ((ops.drop 1).take 35) V (Proc.devRef .tc main_v26)
      = trip (choice (dist (V (Proc.devRef .tc main_v0)))) := by
  after_reads_simp
  refine stack_congr _ ?_ ?_ ?_
  · change upto _ V 34 (Proc.devRef .tc main_v23) = _
    after_reads_simp
  · change upto _ V 34 (Proc.devRef .tc main_v24) = _
    after_reads_simp
  · change upto _ V 34 (Proc.devRef .tc main_v25) = _
    after_reads_simp
    rfl

set_option maxRecDepth 16384 in
set_option maxHeartbeats 4000000 in
/-- They leave the stacked array as it was. -/
theorem read_mid_pool (V : Valuation τ sig (Elt Ideal)) :
    after ((ops.drop 1).take 35) V (Proc.devRef .tc main_v0) = V (Proc.devRef .tc main_v0) := by
  after_reads_simp

set_option maxRecDepth 16384 in
set_option maxHeartbeats 4000000 in
/-- The remaining operations leave the mean loss over those triplets. -/
theorem read_mean (V : Valuation τ sig (Elt Ideal)) :
    after (ops.drop 36) V (Proc.devRef .tc main_v74)
      = mean (V (Proc.devRef .tc main_v0)) (V (Proc.devRef .tc main_v26)) := by
  after_reads_simp
  rfl

set_option maxRecDepth 16384 in
set_option maxHeartbeats 4000000 in
/-- The whole line leaves the first result of the reference, a function of the arguments. -/
theorem read_out (V : Valuation τ sig (Elt Ideal)) :
    after ops V (Proc.devRef .tc main_v74)
      = out (V (Proc.devRef .tc main_arg0)) (V (Proc.devRef .tc main_arg1)) (V (Proc.devRef .tc main_arg2)) := by
  have h : after ops V = after (ops.drop 36) (after ((ops.drop 1).take 35) (after (ops.take 1) V)) := rfl
  rw [h, read_mean, read_mid_pool, read_mid, read_pool]
  rfl

set_option maxRecDepth 16384 in
set_option maxHeartbeats 4000000 in
/-- The whole line leaves the second result of the reference, the constant 4096. -/
theorem read_count (V : Valuation τ sig (Elt Ideal)) :
    after ops V (Proc.devRef .tc main_c_16) = constantI S_ 32 4096#32 := by
  after_reads_simp

set_option maxRecDepth 16384 in
set_option maxHeartbeats 4000000 in
/-- The line writes none of the arguments. -/
theorem read_args (V : Valuation τ sig (Elt Ideal)) :
    after ops V (Proc.devRef .tc main_arg0) = V (Proc.devRef .tc main_arg0)
    ∧ after ops V (Proc.devRef .tc main_arg1) = V (Proc.devRef .tc main_arg1)
    ∧ after ops V (Proc.devRef .tc main_arg2) = V (Proc.devRef .tc main_arg2) := by
  refine ⟨?_, ?_, ?_⟩ <;> after_reads_simp

variable (m : (ℓ : Loc nD τ sig) → Buf (Elt Ideal) ℓ) (g : Dev nD → PrngReg)

set_option maxRecDepth 16384 in
set_option maxHeartbeats 4000000 in
/-- The reference's run: every buffer ends at what the line leaves there. -/
theorem run :
    θ_run (defs (F := Ideal)) (onTc (τ := τ) (main (F := Ideal))) ⟨m, fun _ => 0, g⟩ (fun r =>
      ∀ (c : Dev nD) (b : Ref sig .tc), r.2.mem ((c.tc : Thread nD τ).loc b) = after ops (launchContents m c) (Proc.devRef .tc b)) :=
  run_hlo _ _ line.2 (by decide) (by decide) (by unfold line; simp)
    (by intro _ h; unfold line at h; (repeat (cases h with | head => rfl | tail _ h => ?_)); exact nomatch h) m g

/-- The reference leaves its arguments as they were and every counter at zero. -/
theorem frame :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_mono (run m g) fun r h => ⟨fun c =>
    ⟨(h c _).trans (read_args _).1, (h c _).trans (read_args _).2.1, (h c _).trans (read_args _).2.2⟩,
    sem_eq_zero_of_no_sems rfl _⟩

/-- The reference's two results: `out` of the arguments, and 4096. -/
theorem results :
    θ_run (defs (F := Ideal)) (onTc (τ := τ) (main (F := Ideal))) ⟨m, fun _ => 0, g⟩ (fun r => ∀ c : Dev nD,
      r.2.mem ((c.tc : Thread nD τ).loc main_v74)
        = out (m ((c.tc : Thread nD τ).loc main_arg0)) (m ((c.tc : Thread nD τ).loc main_arg1))
            (m ((c.tc : Thread nD τ).loc main_arg2))
      ∧ r.2.mem ((c.tc : Thread nD τ).loc main_c_16) = constantI S_ 32 4096#32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  θ_run_mono (run m g) fun r h => fun c =>
    ⟨(h c _).trans (read_out _), (h c _).trans (read_count _), (h c _).trans (read_args _).1,
      (h c _).trans (read_args _).2.1, (h c _).trans (read_args _).2.2⟩

end Cert.Proof.Ref

end
-- ==== Proof.Finite.lean ====
/- What the precondition says of the arguments: every entry is a real number. -/
module

public import proofs.«01_k».proof.Defs
public import proofs.«01_k».proof.Proof.Gen.Pre_finite
public import Idealize.ShloMosaic.Lib.ReduceAll
public import Idealize.ShloMosaic.Lib.Pointwise
public import Idealize.ShloMosaic.Lib.IdealHost

@[expose] public section

noncomputable section

namespace Cert.Proof

open Idealize.ShloMosaic Cert.Pre_finite Cert.Pre_finite.Facts

/-- The entries of `x` are the real numbers `u`. -/
def Holds (x : FVec Ideal S4096x16 .f32) (u : Fin 4096 → Fin 16 → ℝ) : Prop :=
  ∀ i k, x (ix2 i k) = ((u i k : ℝ) : EReal)

/-- Where every `|x| < ∞` compares true, the entries of `x` are real numbers. -/
theorem holds_of_all (x : FVec Ideal S4096x16 .f32) (j : S_.Idx)
    (h : Host.reduce IntOp.andi
      (cmpf .olt (Host.absf x) (broadcastInDim S4096x16 ![] bcast_S_S4096x16 (constant S_ .f32 0x7F800000#32)))
      (constantI S_ 1 1#1) reducesTo_S4096x16_S_d0_1 h_S_ j = 1#1) : ∃ u, Holds x u := by
  haveI : Subsingleton S_.Idx := ⟨fun a b => funext fun d => d.elim0⟩
  refine ⟨fun i k => (x (ix2 i k) : EReal).toReal, fun i k => ?_⟩
  have e := Host.reduce_andi_all _ _ _ _ j h (ix2 i k)
  have hlt : max (x (ix2 i k) : EReal) (-(x (ix2 i k) : EReal)) < ⊤ := by
    have ht : Ideal.ofBits .f32 0x7F800000#32 = (⊤ : EReal) := by simp [Ideal.ofBits, Ideal.ieee]
    have e' : BitVec.ofBool (decide (max (x (ix2 i k) : EReal) (-(x (ix2 i k) : EReal)) < Ideal.ofBits .f32 0x7F800000#32)) = 1#1 := e
    rw [ht] at e'
    by_contra hn
    rw [decide_eq_false hn] at e'
    exact absurd e' (by decide)
  have h1 : (x (ix2 i k) : EReal) ≠ ⊤ := ((le_max_left _ _).trans_lt hlt).ne
  have h2 : (x (ix2 i k) : EReal) ≠ ⊥ := fun hb => by
    have := ((le_max_right _ _).trans_lt hlt).ne
    rw [hb] at this
    exact this rfl
  exact (EReal.coe_toReal h1 h2).symm

/-- The precondition makes all three arguments arrays of real numbers. -/
theorem finite_args (x1 x2 x3 : FVec Ideal S4096x16 .f32) (h : fn (F := Ideal) x1 x2 x3 = fun _ => 1#1) :
    ∃ u1 u2 u3, Holds x1 u1 ∧ Holds x2 u2 ∧ Holds x3 u3 := by
  have h0 := congrFun h (fun d => d.elim0)
  obtain ⟨h12, h3⟩ := IntOp.andi_eq_one.1 h0
  obtain ⟨h1, h2⟩ := IntOp.andi_eq_one.1 h12
  obtain ⟨u1, k1⟩ := holds_of_all x1 _ h1
  obtain ⟨u2, k2⟩ := holds_of_all x2 _ h2
  obtain ⟨u3, k3⟩ := holds_of_all x3 _ h3
  exact ⟨u1, u2, u3, k1, k2, k3⟩

end Cert.Proof

end
-- ==== Proof.Loss.lean ====
/- The real numbers both programs compute: squared distances, their expanded forms, and the loss of one anchor. -/
module

public import proofs.«01_k».proof.Proof.Finite

@[expose] public section

noncomputable section

namespace Cert.Proof

open Idealize.ShloMosaic

/-- Row `j` of `n` seen from row `i` of `a`: `Σ (-2 n) a + Σ n²`, the squared distance less `‖a‖²`. -/
def near (a n : Fin 4096 → Fin 16 → ℝ) (i j : Fin 4096) : ℝ := ∑ k, -2 * n j k * a i k + ∑ k, n j k * n j k

/-- Row `i` of `p` seen from row `i` of `a`: `Σ p (p - 2 a)`, the squared distance less `‖a‖²`. -/
def far (a p : Fin 4096 → Fin 16 → ℝ) (i : Fin 4096) : ℝ := ∑ k, p i k * (p i k - 2 * a i k)

/-- The squared norm of row `i`. -/
def sq (a : Fin 4096 → Fin 16 → ℝ) (i : Fin 4096) : ℝ := ∑ k, a i k * a i k

/-- The squared distance of row `i` of `a` and row `j` of `b`. -/
def sqdist (a b : Fin 4096 → Fin 16 → ℝ) (i j : Fin 4096) : ℝ := ∑ k, (a i k - b j k) * (a i k - b j k)

/-- Column `j i` of row `i` is a nearest row of `n` to row `i` of `a`. -/
def Nearest (a n : Fin 4096 → Fin 16 → ℝ) (j : Fin 4096 → Fin 4096) : Prop := ∀ i j', near a n i (j i) ≤ near a n i j'

/-- The squared distance is `‖a‖²` and what is seen of `n` from `a`. -/
theorem sqdist_near (a n : Fin 4096 → Fin 16 → ℝ) (i j : Fin 4096) : sqdist a n i j = sq a i + near a n i j := by
  unfold sqdist sq near
  rw [← Finset.sum_add_distrib, ← Finset.sum_add_distrib]
  exact Finset.sum_congr rfl fun k _ => by ring

/-- The squared distance is `‖a‖²` and what is seen of `p` from `a`. -/
theorem sqdist_far (a p : Fin 4096 → Fin 16 → ℝ) (i : Fin 4096) : sqdist a p i i = sq a i + far a p i := by
  unfold sqdist sq far
  rw [← Finset.sum_add_distrib]
  exact Finset.sum_congr rfl fun k _ => by ring

/-- The difference of two distances from one row is the difference of what is seen from it. -/
theorem sqdist_sub (a p n : Fin 4096 → Fin 16 → ℝ) (i j : Fin 4096) :
    sqdist a p i i - sqdist a n i j = far a p i - near a n i j := by
  rw [sqdist_far, sqdist_near]
  ring

/-- A finite sum of real numbers is the same sum among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The greater of two real numbers is the greater among the extended reals. -/
theorem coe_max (x y : ℝ) : ((max x y : ℝ) : EReal) = max (x : EReal) (y : EReal) :=
  EReal.coe_strictMono.monotone.map_max

/-- The word of `2`. -/
theorem word_two : Ideal.ofBits .f32 0x40000000#32 = ((2 : ℝ) : EReal) := by
  simp [Ideal.ofBits, Ideal.ieee, -EReal.coe_mul]; norm_num

/-- The word of `-2`. -/
theorem word_neg_two : Ideal.ofBits .f32 0xC0000000#32 = ((-2 : ℝ) : EReal) := by
  simp [Ideal.ofBits, Ideal.ieee, -EReal.coe_mul]; norm_num

/-- The word of `1/4096`. -/
theorem word_inv : Ideal.ofBits .f32 0x39800000#32 = ((1 / 4096 : ℝ) : EReal) := by
  simp [Ideal.ofBits, Ideal.ieee, -EReal.coe_mul]; norm_num

/-- The word of `4096`. -/
theorem word_count : Ideal.ofBits .f32 0x45800000#32 = ((4096 : ℝ) : EReal) := by
  simp [Ideal.ofBits, Ideal.ieee, -EReal.coe_mul]; norm_num

/-- The word of `+∞`. -/
theorem word_top : Ideal.ofBits .f32 0x7F800000#32 = (⊤ : EReal) := by
  simp [Ideal.ofBits, Ideal.ieee]

end Cert.Proof

end
-- ==== Proof.KernelValue.lean ====
/- What the kernel's block holds where the arguments are real: the summed losses over 4096. -/
module

public import proofs.«01_k».proof.Proof.KernelTerm
public import proofs.«01_k».proof.Proof.Loss

@[expose] public section

noncomputable section

namespace Cert.Proof.Ker

open Idealize.ShloMosaic Cert.KernelIdeal Cert.KernelIdeal.Gen

/-- Anchor `q` of chunk `n`. -/
abbrev anchor (n : ℕ) (h : n < 16) (q : Fin 256) : Fin 4096 := ⟨256 * n + q.val, by omega⟩

/-- The positive's part of the loss is `far`. -/
theorem far_eq {x0 x1 : Vec Ideal S4096x16 .f32} {a p : Fin 4096 → Fin 16 → ℝ} (ha : Holds x0 a) (hp : Holds x1 p)
    (i : Fin 4096) : k0_pay2 (F := Ideal) x0 x1 (ix1 i) = ((far a p i : ℝ) : EReal) := by
  pointwise [k0_pay2]
  unfold far
  rw [coe_sum]
  refine Finset.sum_congr rfl fun k _ => ?_
  rw [ha, hp, word_two, EReal.coe_mul, EReal.coe_sub, EReal.coe_mul]

/-- The inner product of a negative's row of 17 columns with an anchor's is `near`. -/
theorem near_eq {x0 x2 : Vec Ideal S4096x16 .f32} {a n : Fin 4096 → Fin 16 → ℝ} (ha : Holds x0 a) (hn : Holds x2 n)
    (i j : Fin 4096) : ∑ k : Fin 17, k0_pay4 (F := Ideal) x2 (ix2 j k) * k0_pay3 (F := Ideal) x0 (ix2 i k)
      = ((near a n i j : ℝ) : EReal) := by
  pointwise [k0_pay4, k0_pay3]
  unfold near
  rw [EReal.coe_add, coe_sum, coe_sum]
  congr 1
  · refine Finset.sum_congr rfl fun k _ => ?_
    rw [ha, hn, word_neg_two, EReal.coe_mul, EReal.coe_mul]
  · rw [Fin.sum_univ_one]
    refine Finset.sum_congr rfl fun k _ => ?_
    rw [hn, EReal.coe_mul]

/-- A chunk's least inner product is the least over all rows of `N`, read in 512 groups of 8. -/
theorem least_fold (A N : FVec Ideal S4096x17 .f32) (c : ℕ) (hc : c < 16) (q : Fin 256) :
    least A N c hc (ix1 q)
      = Finset.fold min (Ideal.ofBits .f32 0x7F800000#32) (fun x : Fin 512 =>
          Finset.fold min (Ideal.ofBits .f32 0x7F800000#32)
            (fun y : Fin 8 => ∑ k : Fin 17, N (ix2 ⟨y.val * 512 + x.val, by omega⟩ k) * A (ix2 (anchor c hc q) k)) Finset.univ)
          Finset.univ := by
  pointwise [least]

/-- So it is `near` of a nearest row. -/
theorem least_eq {x0 x2 : Vec Ideal S4096x16 .f32} {a n : Fin 4096 → Fin 16 → ℝ} (ha : Holds x0 a) (hn : Holds x2 n)
    {j : Fin 4096 → Fin 4096} (hj : Nearest a n j) (c : ℕ) (hc : c < 16) (q : Fin 256) :
    least (k0_pay3 (F := Ideal) x0) (k0_pay4 (F := Ideal) x2) c hc (ix1 q)
      = ((near a n (anchor c hc q) (j (anchor c hc q)) : ℝ) : EReal) := by
  rw [least_fold, word_top]
  simp only [near_eq ha hn]
  generalize anchor c hc q = i
  refine le_antisymm ?_ ?_
  · have e : j i = ⟨(j i).val / 512 * 512 + (j i).val % 512, by omega⟩ := Fin.ext (by simp only; omega)
    refine (Finset.fold_min_le _).2 (.inr ⟨⟨(j i).val % 512, by omega⟩, Finset.mem_univ _, ?_⟩)
    refine (Finset.fold_min_le _).2 (.inr ⟨⟨(j i).val / 512, by omega⟩, Finset.mem_univ _, ?_⟩)
    exact le_of_eq (congrArg (fun r => ((near a n i r : ℝ) : EReal)) e.symm)
  · refine (Finset.le_fold_min _).2 ⟨le_top, fun x _ => (Finset.le_fold_min _).2 ⟨le_top, fun y _ => ?_⟩⟩
    exact EReal.coe_le_coe_iff.2 (hj i _)

/-- The loss of anchor `i` with negative `j i`. -/
def loss (a p n : Fin 4096 → Fin 16 → ℝ) (j : Fin 4096 → Fin 4096) (i : Fin 4096) : ℝ :=
  max (far a p i - near a n i (j i) + 1) 0

/-- A chunk's entry is its anchor's loss. -/
theorem hinge_eq {x0 x1 x2 : Vec Ideal S4096x16 .f32} {a p n : Fin 4096 → Fin 16 → ℝ} (ha : Holds x0 a) (hp : Holds x1 p)
    (hn : Holds x2 n) {j : Fin 4096 → Fin 4096} (hj : Nearest a n j) (c : ℕ) (hc : c < 16) (q : Fin 256) :
    hinge (k0_pay2 (F := Ideal) x0 x1) (k0_pay3 (F := Ideal) x0) (k0_pay4 (F := Ideal) x2) c hc (ix1 q)
      = ((loss a p n j (anchor c hc q) : ℝ) : EReal) := by
  have e : hinge (k0_pay2 (F := Ideal) x0 x1) (k0_pay3 (F := Ideal) x0) (k0_pay4 (F := Ideal) x2) c hc (ix1 q)
      = max (k0_pay2 (F := Ideal) x0 x1 (ix1 (anchor c hc q))
          - least (k0_pay3 (F := Ideal) x0) (k0_pay4 (F := Ideal) x2) c hc (ix1 q) + 1) 0 := by
    generalize k0_pay2 (F := Ideal) x0 x1 = t
    generalize k0_pay3 (F := Ideal) x0 = A
    generalize k0_pay4 (F := Ideal) x2 = N
    pointwise [hinge]
  rw [e, far_eq ha hp, least_eq ha hn hj]
  unfold loss
  rw [coe_max, EReal.coe_add, EReal.coe_sub, EReal.coe_one, EReal.coe_zero]

/-- A lane of the running total is the sum of that lane's entries of the chunks so far. -/
theorem total_eq (t : FVec Ideal S4096 .f32) (A N : FVec Ideal S4096x17 .f32) (q : Fin 256) :
    ∀ (c : ℕ) (hc : c ≤ 16), total t A N c hc (ix1 q) = ∑ b : Fin c, hinge t A N b.val (by omega) (ix1 q)
  | 0, _ => by
    unfold total
    pointwise []
    exact (Finset.sum_empty).symm
  | c + 1, hc => by
    have e : total t A N (c + 1) hc (ix1 q) = total t A N c (Nat.le_of_succ_le hc) (ix1 q) + hinge t A N c hc (ix1 q) := by
      conv_lhs => unfold total
      pointwise []
    rw [e, total_eq t A N q c, Fin.sum_univ_castSucc]
    rfl

/-- A sum over the 256 lanes of sums over the 16 chunks is the sum over all anchors. -/
theorem sum_anchor (f : Fin 4096 → ℝ) : ∑ q : Fin 256, ∑ c : Fin 16, f (anchor c.val c.isLt q) = ∑ i, f i := by
  rw [Finset.sum_comm, ← Fintype.sum_prod_type' (fun (c : Fin 16) (q : Fin 256) => f (anchor c.val c.isLt q))]
  refine Fintype.sum_equiv (finProdFinEquiv (m := 16) (n := 256)) _ _ fun x => ?_
  exact congrArg f (Fin.ext (by simp [finProdFinEquiv]; omega))

/-- The block's entry is the sum of the losses over all anchors, over 4096. -/
theorem out_eq {x0 x1 x2 : Vec Ideal S4096x16 .f32} {a p n : Fin 4096 → Fin 16 → ℝ} (ha : Holds x0 a) (hp : Holds x1 p)
    (hn : Holds x2 n) {j : Fin 4096 → Fin 4096} (hj : Nearest a n j) :
    out x0 x1 x2 (ix2 0 0) = (((∑ i, loss a p n j i) * (1 / 4096) : ℝ) : EReal) := by
  have e (s : FVec Ideal S256 .f32) : finish s (ix2 0 0) = (∑ q, s (ix1 q)) * Ideal.ofBits .f32 0x39800000#32 := by
    pointwise [finish]
  unfold out
  rw [e, word_inv, EReal.coe_mul, ← sum_anchor, coe_sum]
  congr 1
  refine Finset.sum_congr rfl fun q _ => ?_
  rw [total_eq, coe_sum]
  exact Finset.sum_congr rfl fun c _ => hinge_eq ha hp hn hj c.val c.isLt q

end Cert.Proof.Ker

end
-- ==== Proof.ArgMin.lean ====
/- The reference's choice of a negative: the column it names holds a least entry of its row. -/
module

public import proofs.«01_k».proof.Proof.RefTerm
public import Idealize.ShloMosaic.Lib.Pointwise
public import Idealize.ShloMosaic.Lib.IdealHost

@[expose] public section

noncomputable section

namespace Cert.Proof.Ref

open Idealize.ShloMosaic Cert.ReferenceIdeal Cert.ReferenceIdeal.Facts₀

/-- The comparing step returns one of its two pairs, and its value is at most both values. -/
theorem step_spec (a b : Ideal .f32 × BitVec 32) :
    (reducer_argmin_f32_i32 a b = a ∨ reducer_argmin_f32_i32 a b = b)
      ∧ (reducer_argmin_f32_i32 a b).1 ≤ a.1 ∧ (reducer_argmin_f32_i32 a b).1 ≤ b.1 := by
  obtain ⟨v, i⟩ := a
  obtain ⟨w, j⟩ := b
  rcases lt_trichotomy v w with h | h | h
  · have hne : ¬v = w := h.ne
    have e : reducer_argmin_f32_i32 (v, i) (w, j) = (v, i) := by
      simp [reducer_argmin_f32_i32, Ideal.cmpf_def, Ideal.cmp, IntOp.ori, IntOp.andi, Scalar.select, h, hne]
    rw [e]
    exact ⟨.inl rfl, le_rfl, h.le⟩
  · subst h
    have e : reducer_argmin_f32_i32 (v, i) (v, j) = (v, if IntOp.cmpi .slt i j = 1 then i else j) := by
      simp only [reducer_argmin_f32_i32, Ideal.cmpf_def, Ideal.cmp, IntOp.ori, IntOp.andi, Scalar.select]
      rcases BitVec.eq_zero_or_eq_one (IntOp.cmpi .slt i j) with hs | hs <;> simp [hs]
    rw [e]
    refine ⟨?_, le_rfl, le_rfl⟩
    split
    · exact .inl rfl
    · exact .inr rfl
  · have hlt : ¬v < w := not_lt.2 h.le
    have hne : ¬v = w := h.ne'
    have e : reducer_argmin_f32_i32 (v, i) (w, j) = (w, j) := by
      simp [reducer_argmin_f32_i32, Ideal.cmpf_def, Ideal.cmp, IntOp.ori, IntOp.andi, Scalar.select, hlt, hne]
    rw [e]
    exact ⟨.inr rfl, h.le, le_rfl⟩

/-- A fold of the comparing step returns its start or a listed pair, and its value is at most all of theirs. -/
theorem fold_spec (l : List (Ideal .f32 × BitVec 32)) (r : Ideal .f32 × BitVec 32) :
    (l.foldl reducer_argmin_f32_i32 r = r ∨ l.foldl reducer_argmin_f32_i32 r ∈ l)
      ∧ (l.foldl reducer_argmin_f32_i32 r).1 ≤ r.1 ∧ ∀ p ∈ l, (l.foldl reducer_argmin_f32_i32 r).1 ≤ p.1 := by
  induction l generalizing r with
  | nil => exact ⟨.inl rfl, le_rfl, by simp⟩
  | cons a l ih =>
    obtain ⟨hs, hr, ha⟩ := step_spec r a
    obtain ⟨hm, hle, hall⟩ := ih (reducer_argmin_f32_i32 r a)
    rw [List.foldl_cons]
    refine ⟨?_, hle.trans hr, ?_⟩
    · rcases hm with hm | hm
      · rw [hm]
        rcases hs with hs | hs
        · exact .inl hs
        · exact .inr (by rw [hs]; exact List.mem_cons_self)
      · exact .inr (List.mem_cons_of_mem _ hm)
    · intro p hp
      rcases List.mem_cons.1 hp with rfl | hp
      · exact hle.trans ha
      · exact hall p hp

/-- The pairs compared for row `i` are the entries of that row with their column numbers. -/
theorem mem_row (d : FVec Ideal S4096x4096 .f32) (i : Fin 4096) (p : Ideal .f32 × BitVec 32) :
    p ∈ Host.argReduceFiber d (iotaInDim S4096x4096 32 1) reducesTo_S4096x4096_S4096_d1 (ix1 i)
      ↔ ∃ j : Fin 4096, p = (d (ix2 i j), BitVec.ofNat 32 j.val) := by
  unfold Host.argReduceFiber
  simp only [List.mem_map, List.mem_filter, List.mem_finRange, true_and, decide_eq_true_eq]
  have hdrop (k : S4096x4096.Idx) : reducesTo_S4096x4096_S4096_d1.drop k = ix1 (k 0) := by
    rw [eq_ix1 (reducesTo_S4096x4096_S4096_d1.drop k)]
    exact congrArg ix1 (Fin.ext (reducesTo_S4096x4096_S4096_d1.drop_apply_val_of_eq k 0 0))
  constructor
  · rintro ⟨n, hn, rfl⟩
    generalize S4096x4096.rowMajor.symm n = k at hn ⊢
    rw [hdrop] at hn
    have h0 : k 0 = i := congrFun hn 0
    refine ⟨k 1, ?_⟩
    rw [← h0, ← eq_ix2 k]
    rfl
  · rintro ⟨j, rfl⟩
    refine ⟨S4096x4096.rowMajor (ix2 i j), ?_, ?_⟩
    · rw [Equiv.symm_apply_apply, hdrop]; rfl
    · rw [Equiv.symm_apply_apply]; rfl

/-- Folding the comparing step from `(⊤, 0)` over the entries of a row of `f` with their column numbers gives the number of
    a column whose entry is least. -/
theorem fold_row (f : Fin 4096 → Ideal .f32) (l : List (Ideal .f32 × BitVec 32)) (r : Ideal .f32 × BitVec 32)
    (hl : ∀ p, p ∈ l ↔ ∃ j : Fin 4096, p = (f j, BitVec.ofNat 32 j.val)) (hr : r = ((⊤ : EReal), 0#32)) :
    ∃ j : Fin 4096, (l.foldl reducer_argmin_f32_i32 r).2 = BitVec.ofNat 32 j.val ∧ ∀ j', f j ≤ f j' := by
  obtain ⟨hm, -, hall⟩ := fold_spec l r
  rcases hm with hm | hm
  · rw [hm, hr] at hall
    rw [hm, hr]
    exact ⟨0, rfl, fun j' => le_top.trans (hall _ ((hl _).2 ⟨j', rfl⟩))⟩
  · obtain ⟨j, hj⟩ := (hl _).1 hm
    rw [hj] at hall ⊢
    exact ⟨j, rfl, fun j' => hall _ ((hl _).2 ⟨j', rfl⟩)⟩

/-- The value and index the reference's fold starts from. -/
def start : Ideal .f32 × BitVec 32 :=
  ((constant (F := Ideal) S_ .f32 0x7F800000#32) (Shape.Idx.first h_S_), (constantI S_ 32 0#32) (Shape.Idx.first h_S_))

/-- They are `⊤` and zero. -/
theorem start_eq : start = ((⊤ : EReal), 0#32) := by
  have h : Ideal.ofBits .f32 0x7F800000#32 = (⊤ : EReal) := by simp [Ideal.ofBits, Ideal.ieee]
  exact Prod.ext h rfl

/-- The choice as a function, written out. -/
theorem choice_def : choice = fun d j => (Host.argReduce (reducer_argmin_f32_i32 (F := Ideal)) d (iotaInDim S4096x4096 32 1)
    (constant S_ .f32 0x7F800000#32) (constantI S_ 32 0#32) reducesTo_S4096x4096_S4096_d1 h_S_ j).2 := rfl

/-- The comparison of a row's entries is the fold of the comparing step over them. -/
theorem row_fold (d : FVec Ideal S4096x4096 .f32) (i : S4096.Idx) :
    Host.argReduce (reducer_argmin_f32_i32 (F := Ideal)) d (iotaInDim S4096x4096 32 1)
        (constant S_ .f32 0x7F800000#32) (constantI S_ 32 0#32) reducesTo_S4096x4096_S4096_d1 h_S_ i
      = List.foldl reducer_argmin_f32_i32 start
          (Host.argReduceFiber d (iotaInDim S4096x4096 32 1) reducesTo_S4096x4096_S4096_d1 i) :=
  (congrFun (Ideal.argReduce_eq_reduce2 reducer_argmin_f32_i32 d (iotaInDim S4096x4096 32 1)
      (constant S_ .f32 0x7F800000#32) (constantI S_ 32 0#32) reducesTo_S4096x4096_S4096_d1 h_S_) i).trans
    (Host.reduce2_eq_foldl_fiber reducer_argmin_f32_i32 d (iotaInDim S4096x4096 32 1)
      (constant S_ .f32 0x7F800000#32) (constantI S_ 32 0#32) reducesTo_S4096x4096_S4096_d1 h_S_ i)

/-- The choice is the index that fold leaves. -/
theorem choice_eq (d : FVec Ideal S4096x4096 .f32) (i : S4096.Idx) :
    choice d i = (List.foldl reducer_argmin_f32_i32 start
      (Host.argReduceFiber d (iotaInDim S4096x4096 32 1) reducesTo_S4096x4096_S4096_d1 i)).2 :=
  (congrFun (congrFun choice_def d) i).trans (congrArg Prod.snd (row_fold d i))

/-- The chosen column of row `i` is a column of the array, and its entry is at most every entry of the row. -/
theorem choice_least (d : FVec Ideal S4096x4096 .f32) (i : Fin 4096) :
    ∃ j : Fin 4096, choice d (ix1 i) = BitVec.ofNat 32 j.val ∧ ∀ j', d (ix2 i j) ≤ d (ix2 i j') := by
  rw [choice_eq]
  exact fold_row (fun j => d (ix2 i j)) _ _ (mem_row d i) start_eq

end Cert.Proof.Ref

end
-- ==== Proof.RefRows.lean ====
/- The rows of the stacked array that the triplets name: anchor `i`, positive `i` and a chosen negative. -/
module

public import proofs.«01_k».proof.Proof.RefTerm
public import proofs.«01_k».proof.Proof.Gen.ReferenceIdeal
public import Idealize.ShloMosaic.Lib.Pointwise
public import Idealize.ShloMosaic.Lib.IdealHost
public import Idealize.ShloMosaic.Lib.Routing.Ops

@[expose] public section

noncomputable section

namespace Cert.Proof.Ref

open Idealize.ShloMosaic Cert.ReferenceIdeal Cert.ReferenceIdeal.Facts₀

/-- A row number that is not negative is left alone. -/
theorem wrap_apply (r : IVec S4096 32) (i : Fin 4096) (b : ℕ) (hb : b < 12288) (h : r (ix1 i) = BitVec.ofNat 32 b) :
    wrap r (ix1 i) = BitVec.ofNat 32 b := by
  have hw : wrap r (ix1 i) = Scalar.select (IntOp.cmpi .slt (r (ix1 i)) 0#32) (IntOp.addi (r (ix1 i)) 12288#32) (r (ix1 i)) := by
    pointwise [wrap]
  have hlt : IntOp.cmpi .slt (BitVec.ofNat 32 b) 0#32 = 0#1 := by
    unfold IntOp.cmpi
    have : (BitVec.ofNat 32 b).slt 0#32 = false := by
      rw [BitVec.slt_eq_decide, decide_eq_false_iff_not, not_lt]
      have e : (BitVec.ofNat 32 b).toInt = b := by
        rw [BitVec.toInt_eq_toNat_of_lt] <;> rw [BitVec.toNat_ofNat] <;> omega
      rw [e]
      exact Int.natCast_nonneg b
    simp [this]
  rw [hw, h, hlt]
  rfl

/-- Where the row number is `b`, the gathered row is row `b` of the stacked array. -/
theorem rows_apply (p : FVec Ideal S12288x16 .f32) (r : IVec S4096 32) (i : Fin 4096) (k : Fin 16) (b : Fin 12288)
    (h : r (ix1 i) = BitVec.ofNat 32 b.val) : rows p r (ix2 i k) = p (ix2 b k) := by
  refine Eq.trans ?_ (Eq.trans (Routing.gather_row (nb := 12288) (B := 16) (n := 4096)
    gather_S12288x16_S4096x1_S4096x16_1_0_n_n_0_1_116 rfl rfl rfl rfl rfl p
    (broadcastInDim S4096x1 ![0] bcast_S4096_S4096x1_0 (wrap r)) i k b ?_ (by norm_num)) ?_)
  · unfold rows
    congr 1
  · have e : broadcastInDim S4096x1 ![0] bcast_S4096_S4096x1_0 (wrap r) (ix2 i 0) = wrap r (ix1 i) := by
      pointwise []
    refine Eq.trans ?_ (e.trans (wrap_apply r i b.val b.isLt h))
    congr 1
  · congr 1

/-- The first 4096 rows of the stacked array are the first argument's. -/
theorem pool_fst (x1 x2 x3 : FVec Ideal S4096x16 .f32) (i : Fin 4096) (k : Fin 16) :
    pool x1 x2 x3 (ix2 ⟨i.val, by omega⟩ k) = x1 (ix2 i k) := by
  pointwise [pool]

/-- The next 4096 rows are the second argument's. -/
theorem pool_snd (x1 x2 x3 : FVec Ideal S4096x16 .f32) (i : Fin 4096) (k : Fin 16) :
    pool x1 x2 x3 (ix2 ⟨4096 + i.val, by omega⟩ k) = x2 (ix2 i k) := by
  pointwise [pool]

/-- The last 4096 rows are the third argument's. -/
theorem pool_thd (x1 x2 x3 : FVec Ideal S4096x16 .f32) (i : Fin 4096) (k : Fin 16) :
    pool x1 x2 x3 (ix2 ⟨8192 + i.val, by omega⟩ k) = x3 (ix2 i k) := by
  pointwise [pool]
  have h1 : ¬8192 + i.val < 4096 := by omega
  have h2 : ¬8192 + i.val - 4096 < 4096 := by omega
  have h3 : 8192 + i.val - 4096 - 4096 = i.val := by omega
  simp only [h1, h2, h3, dite_false, Fin.eta]

/-- The triplets' first column names the anchors. -/
theorem rows_fst (x1 x2 x3 : FVec Ideal S4096x16 .f32) (c : IVec S4096 32) (i : Fin 4096) (k : Fin 16) :
    rows (pool x1 x2 x3) (col (trip c) 0 slices_S4096x3_S4096x1_0_0) (ix2 i k) = x1 (ix2 i k) := by
  rw [rows_apply _ _ i k ⟨i.val, by omega⟩, pool_fst]
  pointwise [col, trip]

/-- The second column names the positives. -/
theorem rows_snd (x1 x2 x3 : FVec Ideal S4096x16 .f32) (c : IVec S4096 32) (i : Fin 4096) (k : Fin 16) :
    rows (pool x1 x2 x3) (col (trip c) 1 slices_S4096x3_S4096x1_0_1) (ix2 i k) = x2 (ix2 i k) := by
  rw [rows_apply _ _ i k ⟨4096 + i.val, by omega⟩, pool_snd]
  pointwise [col, trip]
  rw [BitVec.ofNat_add, IntOp.addi, BitVec.add_comm]

/-- The third column names the chosen negatives. -/
theorem rows_thd (x1 x2 x3 : FVec Ideal S4096x16 .f32) (c : IVec S4096 32) (i j : Fin 4096) (k : Fin 16)
    (h : c (ix1 i) = BitVec.ofNat 32 j.val) :
    rows (pool x1 x2 x3) (col (trip c) 2 slices_S4096x3_S4096x1_0_2) (ix2 i k) = x3 (ix2 j k) := by
  rw [rows_apply _ _ i k ⟨8192 + j.val, by omega⟩, pool_thd]
  pointwise [col, trip]
  rw [h, BitVec.ofNat_add, IntOp.addi]

end Cert.Proof.Ref

end
-- ==== Proof.RefValue.lean ====
/- What the reference computes where the arguments are real. -/
module

public import proofs.«01_k».proof.Proof.ArgMin
public import proofs.«01_k».proof.Proof.RefRows
public import proofs.«01_k».proof.Proof.Loss

@[expose] public section

noncomputable section

namespace Cert.Proof.Ref

open Idealize.ShloMosaic Cert.ReferenceIdeal Cert.ReferenceIdeal.Facts₀

/-- The array of distances holds `‖a‖² + near`. -/
theorem dist_eq {x1 x2 x3 : FVec Ideal S4096x16 .f32} {a n : Fin 4096 → Fin 16 → ℝ} (ha : Holds x1 a) (hn : Holds x3 n)
    (i j : Fin 4096) : dist (pool x1 x2 x3) (ix2 i j) = ((sq a i + near a n i j : ℝ) : EReal) := by
  have hp : ∀ p : FVec Ideal S12288x16 .f32, dist p (ix2 i j)
      = (∑ k, p (ix2 ⟨i.val, by omega⟩ k) * p (ix2 ⟨i.val, by omega⟩ k)
          + ∑ k, p (ix2 ⟨8192 + j.val, by omega⟩ k) * p (ix2 ⟨8192 + j.val, by omega⟩ k))
        - Ideal.ofBits .f32 0x40000000#32 * ∑ k, p (ix2 ⟨i.val, by omega⟩ k) * p (ix2 ⟨8192 + j.val, by omega⟩ k) := by
    intro p
    pointwise [dist, sqnorm]
  rw [hp, word_two]
  simp only [pool_fst, pool_thd, ha _ _, hn _ _, ← EReal.coe_mul, ← coe_sum, ← EReal.coe_add, ← EReal.coe_sub]
  congr 1
  unfold sq near
  rw [Finset.mul_sum, add_sub_assoc, ← Finset.sum_sub_distrib, ← Finset.sum_add_distrib, ← Finset.sum_add_distrib,
    ← Finset.sum_add_distrib]
  exact Finset.sum_congr rfl fun k _ => by ring

/-- The choice names, for every anchor, a nearest row of the negatives. -/
theorem choice_nearest {x1 x2 x3 : FVec Ideal S4096x16 .f32} {a n : Fin 4096 → Fin 16 → ℝ} (ha : Holds x1 a)
    (hn : Holds x3 n) : ∃ j : Fin 4096 → Fin 4096, Nearest a n j
      ∧ ∀ i, choice (dist (pool x1 x2 x3)) (ix1 i) = BitVec.ofNat 32 (j i).val := by
  choose j hc hl using choice_least (dist (pool x1 x2 x3))
  refine ⟨j, fun i j' => ?_, hc⟩
  have h := hl i j'
  rw [dist_eq ha hn, dist_eq ha hn] at h
  exact le_of_add_le_add_left (EReal.coe_le_coe_iff.1 h)

/-- The mean over the triplets, for stacked rows read as real numbers. -/
theorem mean_eq {p : FVec Ideal S12288x16 .f32} {t : IVec S4096x3 32} {a b c : Fin 4096 → Fin 16 → ℝ}
    {j : Fin 4096 → Fin 4096}
    (ha : ∀ i k, rows p (col t 0 slices_S4096x3_S4096x1_0_0) (ix2 i k) = ((a i k : ℝ) : EReal))
    (hb : ∀ i k, rows p (col t 1 slices_S4096x3_S4096x1_0_1) (ix2 i k) = ((b i k : ℝ) : EReal))
    (hc : ∀ i k, rows p (col t 2 slices_S4096x3_S4096x1_0_2) (ix2 i k) = ((c (j i) k : ℝ) : EReal)) :
    mean p t ix0 = (((∑ i, max (sqdist a b i i - sqdist a c i (j i) + 1) 0) * (1 / 4096) : ℝ) : EReal) := by
  have e : mean p t ix0 = Ideal.div (∑ i, max (∑ k,
        (rows p (col t 0 slices_S4096x3_S4096x1_0_0) (ix2 i k) - rows p (col t 1 slices_S4096x3_S4096x1_0_1) (ix2 i k))
          * (rows p (col t 0 slices_S4096x3_S4096x1_0_0) (ix2 i k) - rows p (col t 1 slices_S4096x3_S4096x1_0_1) (ix2 i k))
      - ∑ k, (rows p (col t 0 slices_S4096x3_S4096x1_0_0) (ix2 i k) - rows p (col t 2 slices_S4096x3_S4096x1_0_2) (ix2 i k))
          * (rows p (col t 0 slices_S4096x3_S4096x1_0_0) (ix2 i k) - rows p (col t 2 slices_S4096x3_S4096x1_0_2) (ix2 i k))
      + 1) 0) (Ideal.ofBits .f32 0x45800000#32) := by
    unfold mean
    generalize rows p (col t 0 slices_S4096x3_S4096x1_0_0) = A
    generalize rows p (col t 1 slices_S4096x3_S4096x1_0_1) = B
    generalize rows p (col t 2 slices_S4096x3_S4096x1_0_2) = C
    pointwise [sqnorm]
  rw [e, word_count]
  simp only [ha, hb, hc, ← EReal.coe_mul, ← coe_sum, ← EReal.coe_add, ← EReal.coe_sub, ← EReal.coe_one, ← EReal.coe_zero,
    ← coe_max]
  unfold Ideal.div sqdist
  rw [if_neg (by norm_num), ← EReal.coe_inv, ← EReal.coe_mul, one_div]

/-- The reference's first result is the mean over all anchors of the loss against a nearest negative. -/
theorem out_eq {x1 x2 x3 : FVec Ideal S4096x16 .f32} {a p n : Fin 4096 → Fin 16 → ℝ} (ha : Holds x1 a) (hp : Holds x2 p)
    (hn : Holds x3 n) : ∃ j, Nearest a n j
      ∧ out x1 x2 x3 ix0 = (((∑ i, max (sqdist a p i i - sqdist a n i (j i) + 1) 0) * (1 / 4096) : ℝ) : EReal) := by
  obtain ⟨j, hj, hc⟩ := choice_nearest (x2 := x2) ha hn
  refine ⟨j, hj, ?_⟩
  unfold out
  generalize choice (dist (pool x1 x2 x3)) = c at hc
  refine mean_eq (fun i k => ?_) (fun i k => ?_) fun i k => ?_
  · rw [rows_fst, ha]
  · rw [rows_snd, hp]
  · rw [rows_thd x1 x2 x3 c i (j i) k (hc i), hn]

end Cert.Proof.Ref

end
-- ==== Proof.Equation.lean ====
/- The equation: on arguments of real numbers the kernel's first result is the reference's. -/
module

public import proofs.«01_k».proof.Proof.KernelValue
public import proofs.«01_k».proof.Proof.RefValue

@[expose] public section

noncomputable section

namespace Cert.Proof

open Idealize.ShloMosaic

/-- The kernel's entry, given the shape of a scalar, is the reference's mean loss. -/
theorem out_eq_out (x1 x2 x3 : FVec Ideal Cert.Pre_finite.S4096x16 .f32)
    (h : Cert.Pre_finite.fn (F := Ideal) x1 x2 x3 = fun _ => 1#1) :
    shapeCast Cert.KernelIdeal.S_ (Ker.out x1 x2 x3) Cert.KernelIdeal.Gen.shapeCasts_S1x1_S_ = Ref.out x1 x2 x3 := by
  obtain ⟨a, p, n, ha, hp, hn⟩ := finite_args x1 x2 x3 h
  obtain ⟨j, hj, e⟩ := Ref.out_eq ha hp hn
  have hk := Ker.out_eq ha hp hn hj
  have hs (s : FVec Ideal Cert.KernelIdeal.S1x1 .f32) :
      shapeCast Cert.KernelIdeal.S_ s Cert.KernelIdeal.Gen.shapeCasts_S1x1_S_ ix0 = s (ix2 0 0) := by
    pointwise []
  funext i
  have hi : i = ix0 := funext fun d => d.elim0
  rw [hi, hs, hk, e]
  refine congrArg (fun r : ℝ => ((r * (1 / 4096) : ℝ) : EReal)) (Finset.sum_congr rfl fun i _ => ?_)
  rw [sqdist_sub]
  rfl

end Cert.Proof

end
-- ==== Proof.lean ====
/- The certificate of the triplet loss with the hardest negative. -/
module

public import proofs.«01_k».proof.Defs
public import proofs.«01_k».proof.Proof.Gen.Kernel
public import proofs.«01_k».proof.Proof.Gen.Kernel.Frame
public import proofs.«01_k».proof.Proof.KernelRun
public import proofs.«01_k».proof.Proof.RefRun
public import proofs.«01_k».proof.Proof.Equation

@[expose] public section

noncomputable section

namespace Cert.Proof

open Idealize.ShloMosaic Idealize.SL.Sem

/-- From memories that agree on finite arguments, the kernel and the reference end with the same two results: the mean
    loss and the number of triplets. -/
theorem algebraic : Cert.algebraic_KernelIdeal_ReferenceIdeal_pre_finite := by
  intro m g m' g' hpre hagree
  refine ⟨fun c => shapeCast Cert.KernelIdeal.S_
      (Ker.out (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)))
      Cert.KernelIdeal.Gen.shapeCasts_S1x1_S_,
    fun _ => constantI Cert.KernelIdeal.S_ 32 4096#32, Ker.results m g, ?_⟩
  refine θ_run_mono (Ref.results m' g') fun r h c => ?_
  obtain ⟨h0, h1, h2⟩ := hagree c
  obtain ⟨ho, hc, ha⟩ := h c
  refine ⟨ho.trans ?_, hc, ha⟩
  rw [h0, h1, h2]
  exact (out_eq_out _ _ _ (hpre c)).symm

/-- Everything the certificate claims. -/
theorem claim : Cert.Claim :=
  ⟨Cert.Kernel.Gen.facts, Cert.KernelIdeal.Gen.facts, Cert.ReferenceIdeal.Gen.facts, Cert.Pre_finite.Gen.facts,
    fun m g _ => Cert.Kernel.Gen.frame m g, fun m g _ => Cert.KernelIdeal.Gen.frame m g,
    fun m g _ => Cert.KernelIdeal.Gen.frame m g, fun m g _ => Ref.frame m g, fun m g _ => Ref.frame m g, trivial, algebraic⟩

end Cert.Proof

end
